-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x4 : Shape := ⟨2, ![131072, 4]⟩
abbrev S131072x21 : Shape := ⟨2, ![131072, 21]⟩
abbrev S131072 : Shape := ⟨1, ![131072]⟩
abbrev S21x131072 : Shape := ⟨2, ![21, 131072]⟩
abbrev S4x131072 : Shape := ⟨2, ![4, 131072]⟩
abbrev S1x1 : Shape := ⟨2, ![1, 1]⟩
abbrev S21x16384 : Shape := ⟨2, ![21, 16384]⟩
abbrev S4x16384 : Shape := ⟨2, ![4, 16384]⟩
abbrev S2 : Shape := ⟨1, ![2]⟩
abbrev S21x128 : Shape := ⟨2, ![21, 128]⟩
abbrev S4x128 : Shape := ⟨2, ![4, 128]⟩
abbrev S1x131072 : Shape := ⟨2, ![1, 131072]⟩
abbrev S1 : Shape := ⟨1, ![1]⟩
abbrev S16384 : Shape := ⟨1, ![16384]⟩
abbrev S16383 : Shape := ⟨1, ![16383]⟩
abbrev S16382 : Shape := ⟨1, ![16382]⟩
abbrev S4 : Shape := ⟨1, ![4]⟩
abbrev S16380 : Shape := ⟨1, ![16380]⟩
abbrev S8 : Shape := ⟨1, ![8]⟩
abbrev S16376 : Shape := ⟨1, ![16376]⟩
abbrev S16 : Shape := ⟨1, ![16]⟩
abbrev S16368 : Shape := ⟨1, ![16368]⟩
abbrev S32 : Shape := ⟨1, ![32]⟩
abbrev S16352 : Shape := ⟨1, ![16352]⟩
abbrev S64 : Shape := ⟨1, ![64]⟩
abbrev S16320 : Shape := ⟨1, ![16320]⟩
abbrev S128 : Shape := ⟨1, ![128]⟩
abbrev S16256 : Shape := ⟨1, ![16256]⟩
abbrev S256 : Shape := ⟨1, ![256]⟩
abbrev S16128 : Shape := ⟨1, ![16128]⟩
abbrev S512 : Shape := ⟨1, ![512]⟩
abbrev S15872 : Shape := ⟨1, ![15872]⟩
abbrev S1024 : Shape := ⟨1, ![1024]⟩
abbrev S15360 : Shape := ⟨1, ![15360]⟩
abbrev S2048 : Shape := ⟨1, ![2048]⟩
abbrev S14336 : Shape := ⟨1, ![14336]⟩
abbrev S4096 : Shape := ⟨1, ![4096]⟩
abbrev S12288 : Shape := ⟨1, ![12288]⟩
abbrev S8192 : Shape := ⟨1, ![8192]⟩
abbrev S1x16384 : Shape := ⟨2, ![1, 16384]⟩
abbrev S21x8192 : Shape := ⟨2, ![21, 8192]⟩
abbrev S21x4096 : Shape := ⟨2, ![21, 4096]⟩
abbrev S21x2048 : Shape := ⟨2, ![21, 2048]⟩
abbrev S21x1024 : Shape := ⟨2, ![21, 1024]⟩
abbrev S21x512 : Shape := ⟨2, ![21, 512]⟩
abbrev S21x256 : Shape := ⟨2, ![21, 256]⟩
abbrev S4x8192 : Shape := ⟨2, ![4, 8192]⟩
abbrev S4x4096 : Shape := ⟨2, ![4, 4096]⟩
abbrev S4x2048 : Shape := ⟨2, ![4, 2048]⟩
abbrev S4x1024 : Shape := ⟨2, ![4, 1024]⟩
abbrev S4x512 : Shape := ⟨2, ![4, 512]⟩
abbrev S4x256 : Shape := ⟨2, ![4, 256]⟩
abbrev S1x21x128 : Shape := ⟨3, ![1, 21, 128]⟩
abbrev S1x1x1 : Shape := ⟨3, ![1, 1, 1]⟩
abbrev S1x4x128 : Shape := ⟨3, ![1, 4, 128]⟩
abbrev S_ : Shape := ⟨0, ![]⟩

abbrev nBuf : Space → Nat
  | .hbm => 13
  | .vmem => 9
  | .smem => 4
  | _ => 0

abbrev bufTy : (tb : Table) → Fin (tcTables nBuf tb) → BufTy
  | .hbm, ⟨0, _⟩ => ⟨S131072x4, .f32⟩
  | .hbm, ⟨1, _⟩ => ⟨S131072x21, .f32⟩
  | .hbm, ⟨2, _⟩ => ⟨S131072x4, .f32⟩
  | .hbm, ⟨3, _⟩ => ⟨S131072, .i32⟩
  | .hbm, ⟨4, _⟩ => ⟨S21x131072, .f32⟩
  | .hbm, ⟨5, _⟩ => ⟨S4x131072, .f32⟩
  | .hbm, ⟨6, _⟩ => ⟨S4x131072, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S131072, .i32⟩
  | .local _ .vmem, ⟨1, _⟩ => ⟨S21x16384, .f32⟩
  | .local _ .vmem, ⟨2, _⟩ => ⟨S21x16384, .f32⟩
  | .local _ .vmem, ⟨3, _⟩ => ⟨S4x16384, .f32⟩
  | .local _ .vmem, ⟨4, _⟩ => ⟨S4x16384, .f32⟩
  | .local _ .vmem, ⟨5, _⟩ => ⟨S4x16384, .f32⟩
  | .local _ .vmem, ⟨6, _⟩ => ⟨S4x16384, .f32⟩
  | .local _ .vmem, ⟨7, _⟩ => ⟨S21x128, .f32⟩
  | .local _ .vmem, ⟨8, _⟩ => ⟨S4x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S2, .i32⟩
  | _, _ => ⟨S131072x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch1 : Ref sig .tc := ⟨.vmem, 7, rfl⟩
abbrev cc0_scratch2 : Ref sig .tc := ⟨.vmem, 8, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_scratch0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let c16384_i32 : BitVec 32 := 16384#32
  let v3 : BitVec 32 := Scalar.muli arg0 c16384_i32
  let v4 : Index := Scalar.indexCast v3
  ![v4.toNat]
def k0_cond2 (i : grid0.Coords) : BitVec 1 :=
  let arg0 : BitVec 32 := BitVec.ofNat 32 (i 0).val
  let c7_i32 : BitVec 32 := 7#32
  let v183 : BitVec 1 := Scalar.cmpi .eq arg0 c7_i32
  let v184 : BitVec 32 := Scalar.extui v183
  let c0_i32_40 : BitVec 32 := 0#32
  let v185 : BitVec 1 := Scalar.cmpi .ne v184 c0_i32_40
  v185

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S131072 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S21x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S131072x4 : Shape := ⟨2, ![131072, 4]⟩
abbrev S131072x21 : Shape := ⟨2, ![131072, 21]⟩
abbrev S131072 : Shape := ⟨1, ![131072]⟩
abbrev S_ : Shape := ⟨0, ![]⟩
abbrev S131072x1 : Shape := ⟨2, ![131072, 1]⟩
abbrev S1x21 : Shape := ⟨2, ![1, 21]⟩
abbrev S131072x20 : Shape := ⟨2, ![131072, 20]⟩

abbrev nBuf : Space → Nat
  | .hbm => 99
  | .vmem => 0
  | .smem => 0
  | _ => 0

abbrev bufTy : (tb : Table) → Fin (tcTables nBuf tb) → BufTy
  | .hbm, ⟨0, _⟩ => ⟨S131072x4, .f32⟩
  | .hbm, ⟨1, _⟩ => ⟨S131072x21, .f32⟩
  | .hbm, ⟨2, _⟩ => ⟨S131072x4, .f32⟩
  | .hbm, ⟨3, _⟩ => ⟨S131072, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i1⟩
  | .hbm, ⟨10, _⟩ => ⟨S131072, .f32⟩
  | .hbm, ⟨11, _⟩ => ⟨S131072, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072x1, .i32⟩
  | .hbm, ⟨19, _⟩ => ⟨S1x21, .i32⟩
  | .hbm, ⟨20, _⟩ => ⟨S131072x21, .i32⟩
  | .hbm, ⟨21, _⟩ => ⟨S131072x21, .i32⟩
  | .hbm, ⟨22, _⟩ => ⟨S131072x21, .i1⟩
  | .hbm, ⟨23, _⟩ => ⟨S131072x21, .f32⟩
  | .hbm, ⟨24, _⟩ => ⟨S131072x20, .f32⟩
  | .hbm, ⟨25, _⟩ => ⟨S131072x20, .f32⟩
  | .hbm, ⟨26, _⟩ => ⟨S_, .f32⟩
  | .hbm, ⟨27, _⟩ => ⟨S131072x20, .f32⟩
  | .hbm, ⟨28, _⟩ => ⟨S131072x20, .f32⟩
  | .hbm, ⟨29, _⟩ => ⟨S131072x20, .f32⟩
  | .hbm, ⟨30, _⟩ => ⟨S131072x20, .f32⟩
  | .hbm, ⟨31, _⟩ => ⟨S131072x20, .f32⟩
  | .hbm, ⟨32, _⟩ => ⟨S131072x20, .f32⟩
  | .hbm, ⟨33, _⟩ => ⟨S131072x20, .f32⟩
  | .hbm, ⟨34, _⟩ => ⟨S131072x20, .f32⟩
  | .hbm, ⟨35, _⟩ => ⟨S131072x20, .f32⟩
  | .hbm, ⟨36, _⟩ => ⟨S131072x1, .f32⟩
  | .hbm, ⟨37, _⟩ => ⟨S131072x20, .f32⟩
  | .hbm, ⟨38, _⟩ => ⟨S131072x20, .f32⟩
  | .hbm, ⟨39, _⟩ => ⟨S131072x20, .f32⟩
  | .hbm, ⟨40, _⟩ => ⟨S131072x20, .f32⟩
  | .hbm, ⟨41, _⟩ => ⟨S_, .f32⟩
  | .hbm, ⟨42, _⟩ => ⟨S131072x20, .f32⟩
  | .hbm, ⟨43, _⟩ => ⟨S_, .f32⟩
  | .hbm, ⟨44, _⟩ => ⟨S131072x20, .f32⟩
  | .hbm, ⟨45, _⟩ => ⟨S131072x20, .f32⟩
  | .hbm, ⟨46, _⟩ => ⟨S131072x20, .f32⟩
  | .hbm, ⟨47, _⟩ => ⟨S131072x20, .f32⟩
  | .hbm, ⟨48, _⟩ => ⟨S131072x20, .f32⟩
  | .hbm, ⟨49, _⟩ => ⟨S131072x20, .f32⟩
  | .hbm, ⟨50, _⟩ => ⟨S131072x20, .f32⟩
  | .hbm, ⟨51, _⟩ => ⟨S131072x20, .f32⟩
  | .hbm, ⟨52, _⟩ => ⟨S131072x20, .f32⟩
  | .hbm, ⟨53, _⟩ => ⟨S_, .i32⟩
  | .hbm, ⟨54, _⟩ => ⟨S_, .i32⟩
  | .hbm, ⟨55, _⟩ => ⟨S131072, .i32⟩
  | .hbm, ⟨56, _⟩ => ⟨S_, .i32⟩
  | .hbm, ⟨57, _⟩ => ⟨S_, .i32⟩
  | .hbm, ⟨58, _⟩ => ⟨S131072, .i32⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S131072, .i1⟩
  | .hbm, ⟨64, _⟩ => ⟨S131072, .i1⟩
  | .hbm, ⟨65, _⟩ => ⟨S131072, .f32⟩
  | .hbm, ⟨66, _⟩ => ⟨S131072x1, .f32⟩
  | .hbm, ⟨67, _⟩ => ⟨S131072x20, .f32⟩
  | .hbm, ⟨68, _⟩ => ⟨S131072x20, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S131072x4, .f32⟩
  | .hbm, ⟨75, _⟩ => ⟨S131072x4, .f32⟩
  | .hbm, ⟨76, _⟩ => ⟨S_, .f32⟩
  | .hbm, ⟨77, _⟩ => ⟨S131072x4, .f32⟩
  | .hbm, ⟨78, _⟩ => ⟨S131072x4, .i1⟩
  | .hbm, ⟨79, _⟩ => ⟨S_, .f32⟩
  | .hbm, ⟨80, _⟩ => ⟨S131072x4, .f32⟩
  | .hbm, ⟨81, _⟩ => ⟨S131072x4, .f32⟩
  | .hbm, ⟨82, _⟩ => ⟨S131072x4, .f32⟩
  | .hbm, ⟨83, _⟩ => ⟨S_, .f32⟩
  | .hbm, ⟨84, _⟩ => ⟨S131072x4, .f32⟩
  | .hbm, ⟨85, _⟩ => ⟨S131072x4, .f32⟩
  | .hbm, ⟨86, _⟩ => ⟨S131072x4, .f32⟩
  | .hbm, ⟨87, _⟩ => ⟨S131072x1, .f32⟩
  | .hbm, ⟨88, _⟩ => ⟨S131072x4, .f32⟩
  | .hbm, ⟨89, _⟩ => ⟨S131072x4, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S131072x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_call2_call0_c : Ref sig .tc := ⟨.hbm, 56, rfl⟩
abbrev main_call2_call0_v0 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Proof.Loss.lean ====
/-
  The detection loss on numbers and words, with no program in sight: the two counts the mining rule compares, one
  entry's contribution to the classification sum and to the box sum, and the three array facts the tiled computation
  rests on (a running count by doubling shifts, a sum kept by folding lanes in halves, a sum over tiles and lanes).
-/
module

public import Idealize.ShloMosaic.Lib.Pipeline.ValueKit
public import Idealize.ShloMosaic.Lib.Pointwise.IndexVar
public import Idealize.ShloMosaic.Lib.IdealHost

@[expose] public section

set_option maxRecDepth 16384

noncomputable section

namespace Cert.Loss

open Idealize.ShloMosaic

/-! ## Counts held in 32-bit words -/

/-- 1 at an anchor below 131072 labelled 20 (the background), 0 elsewhere. -/
def bg (g : Fin 131072 → BitVec 32) (n : ℕ) : ℕ := if h : n < 131072 then (if g ⟨n, h⟩ = 20#32 then 1 else 0) else 0

/-- The background anchors among the first `k`, as a word. -/
def before (g : Fin 131072 → BitVec 32) (k : ℕ) : BitVec 32 := BitVec.ofNat 32 (∑ n ∈ Finset.range k, bg g n)

/-- The anchors not labelled background, as a word. -/
def numPos (g : Fin 131072 → BitVec 32) : BitVec 32 :=
  Finset.fold IntOp.addi (0#32) (fun n => BitVec.setWidth 32 (IntOp.cmpi .ne (g n) 20#32)) Finset.univ

/-- Whether anchor `n`'s rank among the background anchors is below three times the number of the others. -/
def mined (g : Fin 131072 → BitVec 32) (n : ℕ) : BitVec 1 :=
  IntOp.cmpi .slt (before g (n + 1) - 1#32) (numPos g * 3#32)

theorem bg_word (g : Fin 131072 → BitVec 32) (n : Fin 131072) :
    BitVec.setWidth 32 (IntOp.cmpi .eq (g n) 20#32) = BitVec.ofNat 32 (bg g n.val) := by
  unfold bg IntOp.cmpi
  rw [dif_pos n.isLt]
  by_cases h : g n = 20#32
  · simp [h]
  · have hb : (g n == 20#32) = false := beq_eq_false_iff_ne.mpr h
    simp [h, hb]

/-- A fold of words that are naturals is the word of the naturals' sum. -/
theorem fold_ofNat {ι : Type} (S : Finset ι) (f : ι → ℕ) :
    Finset.fold IntOp.addi (0#32) (fun i => BitVec.ofNat 32 (f i)) S = BitVec.ofNat 32 (∑ i ∈ S, f i) := by
  induction S using Finset.cons_induction with
  | empty => rfl
  | cons a s ha ih =>
    rw [Finset.fold_cons, ih, Finset.sum_cons, BitVec.ofNat_add]
    rfl

/-- The word of a count up to `a + b` is the word up to `a` plus the word of the next `b`. -/
theorem before_add (g : Fin 131072 → BitVec 32) (a b : ℕ) :
    before g (a + b) = before g a + BitVec.ofNat 32 (∑ j ∈ Finset.range b, bg g (a + j)) := by
  unfold before
  rw [Finset.sum_range_add, BitVec.ofNat_add]

/-! ## A running count by doubling shifts -/

/-- A vector plus itself moved `d` lanes up, zeros moving in. -/
def shiftAdd (d e : ℕ) (hs : (⟨1, ![16384]⟩ : Shape).Slices ![0] ⟨1, ![e]⟩)
    (hc : Shape.Concatenates [⟨1, ![d]⟩, ⟨1, ![e]⟩] ⟨1, ![16384]⟩ 0) (v : IVec ⟨1, ![16384]⟩ 32) : IVec ⟨1, ![16384]⟩ 32 :=
  addi v (concatenate ⟨1, ![16384]⟩ 0
    [⟨⟨1, ![d]⟩, broadcast ⟨1, ![d]⟩ 0#32⟩, ⟨⟨1, ![e]⟩, extractStridedSlice ⟨1, ![e]⟩ ![0] v hs⟩] hc)

theorem shiftAdd_apply (d e : ℕ) (hs : (⟨1, ![16384]⟩ : Shape).Slices ![0] ⟨1, ![e]⟩)
    (hc : Shape.Concatenates [⟨1, ![d]⟩, ⟨1, ![e]⟩] ⟨1, ![16384]⟩ 0) (v : IVec ⟨1, ![16384]⟩ 32) (j : Fin 16384) :
    shiftAdd d e hs hc v (ix1 j) = v (ix1 j) + if j.val < d then 0#32 else v (ix1 ⟨j.val - d, by omega⟩) := by
  pointwise [shiftAdd]
  split <;> rfl

/-- Lane `j` of `v` is the word of the sum of `f` over the `d` lanes ending at `j` (fewer near lane 0). -/
def Windowed (f : ℕ → ℕ) (d : ℕ) (v : IVec ⟨1, ![16384]⟩ 32) : Prop :=
  ∀ j : Fin 16384, v (ix1 j) = BitVec.ofNat 32 (∑ i ∈ Finset.Ico (j.val + 1 - d) (j.val + 1), f i)

theorem Windowed.double {f : ℕ → ℕ} {d : ℕ} {v : IVec ⟨1, ![16384]⟩ 32} (hv : Windowed f d v) (e : ℕ)
    (hs : (⟨1, ![16384]⟩ : Shape).Slices ![0] ⟨1, ![e]⟩) (hc : Shape.Concatenates [⟨1, ![d]⟩, ⟨1, ![e]⟩] ⟨1, ![16384]⟩ 0) :
    Windowed f (d + d) (shiftAdd d e hs hc v) := by
  intro j
  rw [shiftAdd_apply, hv j]
  split
  · next h =>
    rw [BitVec.add_zero]
    congr 3 <;> omega
  · next h =>
    rw [hv, ← BitVec.ofNat_add, add_comm]
    congr 1
    show ∑ i ∈ Finset.Ico (j.val - d + 1 - d) (j.val - d + 1), f i + _ = _
    have h1 : j.val - d + 1 = j.val + 1 - d := by omega
    have h2 : j.val - d + 1 - d = j.val + 1 - (d + d) := by omega
    rw [h2, h1, Finset.sum_Ico_consecutive f (by omega) (by omega)]

/-! ## A sum kept by folding lanes in halves -/

/-- The lower half of the lanes plus the upper half. -/
def halve (r h : ℕ) (h0 : (⟨2, ![r, h + h]⟩ : Shape).Slices ![0, 0] ⟨2, ![r, h]⟩)
    (h1 : (⟨2, ![r, h + h]⟩ : Shape).Slices ![0, h] ⟨2, ![r, h]⟩) (v : FVec Ideal ⟨2, ![r, h + h]⟩ .f32) : FVec Ideal ⟨2, ![r, h]⟩ .f32 :=
  addf (extractStridedSlice ⟨2, ![r, h]⟩ ![0, 0] v h0) (extractStridedSlice ⟨2, ![r, h]⟩ ![0, h] v h1)

theorem sum_halve (r h : ℕ) (h0 : (⟨2, ![r, h + h]⟩ : Shape).Slices ![0, 0] ⟨2, ![r, h]⟩)
    (h1 : (⟨2, ![r, h + h]⟩ : Shape).Slices ![0, h] ⟨2, ![r, h]⟩) (v : FVec Ideal ⟨2, ![r, h + h]⟩ .f32) (i : Fin r) :
    ∑ j : Fin h, halve r h h0 h1 v (ix2 i j) = ∑ j : Fin (h + h), v (ix2 i j) := by
  rw [Fin.sum_univ_add, ← Finset.sum_add_distrib]
  refine Finset.sum_congr rfl fun j _ => ?_
  pointwise [halve]
  rfl

/-! ## One entry's contribution -/

/-- The soft-plus term both signs of target share. -/
def softplus (x : Ideal .f32) : Ideal .f32 := max x 0 + Ideal.log1p (Ideal.exp (-FloatOps.absf x))

/-- What class `c` of an anchor labelled `y` adds to the classification sum, its logit being `x` and `s` the mining
    rule's answer. -/
def clsTerm (s : BitVec 1) (y : BitVec 32) (c : ℕ) (x : Ideal .f32) : Ideal .f32 :=
  if y = 20#32 then (if s = 1#1 then softplus x else 0) else softplus x - (if y = BitVec.ofNat 32 c then x else 0)

/-- What one coordinate of an anchor labelled `y` adds to the box sum, `d` being prediction minus truth. -/
def boxTerm (y : BitVec 32) (d : Ideal .f32) : Ideal .f32 :=
  if y = 20#32 then 0 else
    if FloatOps.absf d < 1 then Ideal.ofBits .f32 0x3F000000#32 * d * d else FloatOps.absf d - Ideal.ofBits .f32 0x3F000000#32

theorem cmpi_eq_one {w : ℕ} {a b : BitVec w} (h : a = b) : IntOp.cmpi .eq a b = 1#1 := by simp [IntOp.cmpi, h]
theorem cmpi_eq_zero {w : ℕ} {a b : BitVec w} (h : a ≠ b) : IntOp.cmpi .eq a b = 0#1 := by
  have hb : (a == b) = false := beq_eq_false_iff_ne.mpr h
  simp [IntOp.cmpi, hb]
theorem cmpi_ne_one {w : ℕ} {a b : BitVec w} (h : a ≠ b) : IntOp.cmpi .ne a b = 1#1 := by
  have hb : (a != b) = true := bne_iff_ne.mpr h
  simp [IntOp.cmpi, hb]
theorem cmpi_ne_zero {w : ℕ} {a b : BitVec w} (h : a = b) : IntOp.cmpi .ne a b = 0#1 := by simp [IntOp.cmpi, h]

theorem bit_cases (s : BitVec 1) : s = 0#1 ∨ s = 1#1 := by
  revert s; decide

theorem uitofp_zero : FloatOps.uitofp (F := Ideal) .f32 (0#1) = 0 := by
  show (((0#1 : BitVec 1).toNat : ℝ) : EReal) = 0
  simp
theorem uitofp_one : FloatOps.uitofp (F := Ideal) .f32 (1#1) = 1 := by
  show (((1#1 : BitVec 1).toNat : ℝ) : EReal) = 1
  simp
theorem sitofp_zero : FloatOps.sitofp (F := Ideal) .f32 (BitVec.setWidth 32 (0#1)) = 0 := by
  show (((BitVec.setWidth 32 (0#1)).toInt : ℝ) : EReal) = 0
  simp
theorem sitofp_one : FloatOps.sitofp (F := Ideal) .f32 (BitVec.setWidth 32 (1#1)) = 1 := by
  show (((BitVec.setWidth 32 (1#1)).toInt : ℝ) : EReal) = 1
  have : (BitVec.setWidth 32 (1#1)).toInt = 1 := by decide
  rw [this]; simp

/-- The kernel's form of a class's contribution. -/
theorem clsTerm_kernel (s : BitVec 1) (y : BitVec 32) (c : ℕ) (x : Ideal .f32) :
    (max x 0 + Ideal.log1p (Ideal.exp (0 - FloatOps.absf x)))
        * FloatOps.sitofp (F := Ideal) .f32 (BitVec.setWidth 32 (IntOp.ori (IntOp.xori (IntOp.cmpi .eq y 20#32) 1#1) (IntOp.andi (IntOp.cmpi .eq y 20#32) s)))
        - Scalar.select (IntOp.andi (IntOp.cmpi .eq (BitVec.ofNat 32 c) y) (IntOp.xori (IntOp.cmpi .eq y 20#32) 1#1)) x 0
      = clsTerm s y c x := by
  have hz : (0 : Ideal .f32) - FloatOps.absf x = -FloatOps.absf x := by
    show (0 : EReal) - _ = - _
    rw [sub_eq_add_neg, zero_add]
  rw [hz]
  show softplus x * _ - _ = _
  unfold clsTerm
  by_cases hy : y = 20#32
  · rw [cmpi_eq_one hy, if_pos hy, show IntOp.xori (1#1) (1#1) = 0#1 from rfl]
    have ha : ∀ b : BitVec 1, IntOp.andi b (0#1) = 0#1 := by decide
    have hb : ∀ b : BitVec 1, IntOp.ori (0#1) (IntOp.andi (1#1) b) = b := by decide
    rw [ha, hb, ValueIdx.select_zero, sub_zero]
    rcases bit_cases s with rfl | rfl
    · rw [sitofp_zero, if_neg (by decide), mul_zero]
    · rw [sitofp_one, if_pos rfl, mul_one]
  · rw [cmpi_eq_zero hy, if_neg hy, show IntOp.xori (0#1) (1#1) = 1#1 from rfl]
    have ha : ∀ b : BitVec 1, IntOp.ori (1#1) b = 1#1 := by decide
    rw [ha, sitofp_one, mul_one]
    by_cases hc : y = BitVec.ofNat 32 c
    · rw [cmpi_eq_one hc.symm, if_pos hc, show IntOp.andi (1#1) (1#1) = 1#1 from rfl, ValueIdx.select_one]
    · rw [cmpi_eq_zero (Ne.symm hc), if_neg hc, show IntOp.andi (0#1) (1#1) = 0#1 from rfl, ValueIdx.select_zero]

/-- The reference's form: the positive anchors' loss against the one-hot target, plus the mined background's. -/
theorem clsTerm_reference (s : BitVec 1) (y : BitVec 32) (c : ℕ) (x : Ideal .f32) :
    (max x 0 - x * FloatOps.uitofp (F := Ideal) .f32 (IntOp.cmpi .eq (Scalar.select (IntOp.cmpi .ne y 20#32) y 0#32) (BitVec.ofNat 32 c))
          + Ideal.log1p (Ideal.exp (-FloatOps.absf x))) * FloatOps.uitofp (F := Ideal) .f32 (IntOp.cmpi .ne y 20#32)
      + (max x 0 - x * 0 + Ideal.log1p (Ideal.exp (-FloatOps.absf x))) * FloatOps.uitofp (F := Ideal) .f32 (IntOp.andi (IntOp.cmpi .eq y 20#32) s)
      = clsTerm s y c x := by
  unfold clsTerm
  by_cases hy : y = 20#32
  · have hb : ∀ b : BitVec 1, IntOp.andi (1#1) b = b := by decide
    rw [cmpi_ne_zero hy, cmpi_eq_one hy, uitofp_zero, mul_zero, zero_add, mul_zero, sub_zero, if_pos hy, hb]
    rcases bit_cases s with rfl | rfl
    · rw [uitofp_zero, if_neg (by decide), mul_zero]
    · rw [uitofp_one, if_pos rfl, mul_one]; rfl
  · have hb : ∀ b : BitVec 1, IntOp.andi (0#1) b = 0#1 := by decide
    rw [cmpi_ne_one hy, cmpi_eq_zero hy, hb, uitofp_zero, uitofp_one, mul_one, mul_zero, add_zero, ValueIdx.select_one, if_neg hy]
    have hu : x * FloatOps.uitofp (F := Ideal) .f32 (IntOp.cmpi .eq y (BitVec.ofNat 32 c)) = if y = BitVec.ofNat 32 c then x else 0 := by
      by_cases hc : y = BitVec.ofNat 32 c
      · rw [cmpi_eq_one hc, uitofp_one, mul_one, if_pos hc]
      · rw [cmpi_eq_zero hc, uitofp_zero, mul_zero, if_neg hc]
    rw [hu]
    generalize (if y = BitVec.ofNat 32 c then x else 0) = z
    unfold softplus
    exact (add_right_comm (G := EReal) _ (-z) _)

/-- The kernel's form of a box coordinate's contribution. -/
theorem boxTerm_kernel (y : BitVec 32) (d : Ideal .f32) :
    (if FloatOps.absf d < 1 then Ideal.ofBits .f32 0x3F000000#32 * d * d else FloatOps.absf d - Ideal.ofBits .f32 0x3F000000#32)
      * FloatOps.sitofp (F := Ideal) .f32 (BitVec.setWidth 32 (IntOp.xori (IntOp.cmpi .eq y 20#32) 1#1)) = boxTerm y d := by
  unfold boxTerm
  by_cases hy : y = 20#32
  · rw [cmpi_eq_one hy, if_pos hy, show IntOp.xori (1#1) (1#1) = 0#1 from rfl, sitofp_zero, mul_zero]
  · rw [cmpi_eq_zero hy, if_neg hy, show IntOp.xori (0#1) (1#1) = 1#1 from rfl, sitofp_one, mul_one]

/-- The reference's form of a box coordinate's contribution. -/
theorem boxTerm_reference (y : BitVec 32) (d : Ideal .f32) :
    (if FloatOps.absf d < 1 then Ideal.ofBits .f32 0x3F000000#32 * d * d else FloatOps.absf d - Ideal.ofBits .f32 0x3F000000#32)
      * FloatOps.uitofp (F := Ideal) .f32 (IntOp.cmpi .ne y 20#32) = boxTerm y d := by
  unfold boxTerm
  by_cases hy : y = 20#32
  · rw [cmpi_ne_zero hy, if_pos hy, uitofp_zero, mul_zero]
  · rw [cmpi_ne_one hy, if_neg hy, uitofp_one, mul_one]

end Cert.Loss

end
-- ==== Proof.Point.lean ====
/-
  What one grid point computes, over the blocks it is given: the weight of every anchor of the tile, and the totals of
  the two blocks of partial sums it leaves in scratch.
-/
module

public import proofs.«01_k».proof.Proof.Gen.KernelIdeal.Skeleton
public import proofs.«01_k».proof.Proof.Loss

@[expose] public section

set_option maxRecDepth 16384

noncomputable section

namespace Cert.KernelIdeal.Tile

open Cert.KernelIdeal Cert.KernelIdeal.Gen Cert.Loss Idealize.ShloMosaic Idealize.ShloMosaic.TcCoe Idealize.SL.Sem

/-! ## The running count of background anchors inside a tile -/

/-- The tile's first eight doubling shifts. -/
theorem pay11_eq (v5 : Vec Ideal S16384 .i32) : k0_pay11 (F := Ideal) v5 =
    shiftAdd 128 16256 slices_S16384_o0_S16256 concatenates_S128_S16256_S16384_d0
    (shiftAdd 64 16320 slices_S16384_o0_S16320 concatenates_S64_S16320_S16384_d0
    (shiftAdd 32 16352 slices_S16384_o0_S16352 concatenates_S32_S16352_S16384_d0
    (shiftAdd 16 16368 slices_S16384_o0_S16368 concatenates_S16_S16368_S16384_d0
    (shiftAdd 8 16376 slices_S16384_o0_S16376 concatenates_S8_S16376_S16384_d0
    (shiftAdd 4 16380 slices_S16384_o0_S16380 concatenates_S4_S16380_S16384_d0
    (shiftAdd 2 16382 slices_S16384_o0_S16382 concatenates_S2_S16382_S16384_d0
    (shiftAdd 1 16383 slices_S16384_o0_S16383 concatenates_S1_S16383_S16384_d0 (k0_pay10 (F := Ideal) v5)))))))) := rfl

/-- Its last six. -/
def lateShifts (v : IVec S16384 32) : IVec S16384 32 :=
    shiftAdd 8192 8192 slices_S16384_o0_S8192 concatenates_S8192_S8192_S16384_d0
    (shiftAdd 4096 12288 slices_S16384_o0_S12288 concatenates_S4096_S12288_S16384_d0
    (shiftAdd 2048 14336 slices_S16384_o0_S14336 concatenates_S2048_S14336_S16384_d0
    (shiftAdd 1024 15360 slices_S16384_o0_S15360 concatenates_S1024_S15360_S16384_d0
    (shiftAdd 512 15872 slices_S16384_o0_S15872 concatenates_S512_S15872_S16384_d0
    (shiftAdd 256 16128 slices_S16384_o0_S16128 concatenates_S256_S16128_S16384_d0 v)))))

theorem pay12_eq (v7 v8 : IVec S16384 1) (v11 v43 : IVec S16384 32) (v69 v72 : BitVec 32) :
    k0_pay12 (F := Ideal) v7 v8 v11 v43 0#32 v69 v72 = sitofp .f32 (extui 32 (ori v8 (andi v7 (cmpi .slt
      (addi (subi (lateShifts v43) v11) (broadcast S16384 v69)) (broadcast S16384 (Scalar.muli v72 3#32))))) natLt_1_32) := rfl

section Tile

variable (g : Fin 131072 → BitVec 32) (base : ℕ) (hb : base + 16384 ≤ 131072) (v5 : Vec Ideal S16384 .i32)
  (hv : ∀ (j : Fin 16384) (h : base + j.val < 131072), v5 (ix1 j) = g ⟨base + j.val, h⟩)

include hb hv in
/-- The background mask as a word. -/
theorem pay10_apply (j : Fin 16384) : k0_pay10 (F := Ideal) v5 (ix1 j) = BitVec.ofNat 32 (bg g (base + j.val)) := by
  rw [← bg_word g ⟨base + j.val, by omega⟩, ← hv j (by omega)]
  pointwise [k0_pay10, k0_pay7]

include hb hv in
/-- After all fourteen shifts a lane holds the count up to and including itself. -/
theorem running_apply (j : Fin 16384) : lateShifts (k0_pay11 (F := Ideal) v5) (ix1 j)
    = BitVec.ofNat 32 (∑ i ∈ Finset.range (j.val + 1), bg g (base + i)) := by
  have h0 : Windowed (fun i => bg g (base + i)) 1 (k0_pay10 (F := Ideal) v5) := fun j => by
    rw [pay10_apply g base hb v5 hv j, Nat.add_sub_cancel, Nat.Ico_succ_singleton, Finset.sum_singleton]
  have h : Windowed (fun i => bg g (base + i)) 16384 (lateShifts (k0_pay11 (F := Ideal) v5)) := (((((((((((((h0.double _ slices_S16384_o0_S16383 concatenates_S1_S16383_S16384_d0).double _
    slices_S16384_o0_S16382 concatenates_S2_S16382_S16384_d0).double _
    slices_S16384_o0_S16380 concatenates_S4_S16380_S16384_d0).double _
    slices_S16384_o0_S16376 concatenates_S8_S16376_S16384_d0).double _
    slices_S16384_o0_S16368 concatenates_S16_S16368_S16384_d0).double _
    slices_S16384_o0_S16352 concatenates_S32_S16352_S16384_d0).double _
    slices_S16384_o0_S16320 concatenates_S64_S16320_S16384_d0).double _
    slices_S16384_o0_S16256 concatenates_S128_S16256_S16384_d0).double _
    slices_S16384_o0_S16128 concatenates_S256_S16128_S16384_d0).double _
    slices_S16384_o0_S15872 concatenates_S512_S15872_S16384_d0).double _
    slices_S16384_o0_S15360 concatenates_S1024_S15360_S16384_d0).double _
    slices_S16384_o0_S14336 concatenates_S2048_S14336_S16384_d0).double _
    slices_S16384_o0_S12288 concatenates_S4096_S12288_S16384_d0).double _
    slices_S16384_o0_S8192 concatenates_S8192_S8192_S16384_d0
  rw [h j, Finset.range_eq_Ico, Nat.sub_eq_zero_of_le (by omega)]

include hb hv in
/-- The whole tile's count, added to the count before it, is the count before the next tile. -/
theorem tile_count : Scalar.addi (before g base) (extractAt ![0, 0] (k0_pay13 (k0_pay10 (F := Ideal) v5)) inpos_S1x1_p0_0)
    = before g (base + 16384) := by
  rw [before_add]
  pointwise [k0_pay13]
  simp only [pay10_apply g base hb v5 hv]
  rw [fold_ofNat, Finset.sum_range]
  rfl

/-- The mining mask, or an anchor that is not background: the same weight whatever the rule says of the latter. -/
theorem weight_mask (e S T : BitVec 1) (h : e = 1#1 → S = T) :
    IntOp.ori (IntOp.xori e 1#1) (IntOp.andi e S) = IntOp.ori (IntOp.xori e 1#1) (IntOp.andi e T) := by
  rcases bit_cases e with rfl | rfl
  · revert S T; decide
  · rw [h rfl]

include hb hv in
/-- The weight of an anchor of the tile, from the count before the tile and the number of positives. -/
theorem weight_apply (j : Fin 16384) :
    k0_pay12 (F := Ideal) (k0_pay7 (F := Ideal) v5) (k0_pay8 (F := Ideal) v5) (k0_pay10 (F := Ideal) v5) (k0_pay11 (F := Ideal) v5) 0#32
        (before g base) (numPos g) (ix1 j)
      = FloatOps.sitofp (F := Ideal) .f32 (BitVec.setWidth 32 (IntOp.ori (IntOp.xori (IntOp.cmpi .eq (v5 (ix1 j)) 20#32) 1#1)
          (IntOp.andi (IntOp.cmpi .eq (v5 (ix1 j)) 20#32) (mined g (base + j.val))))) := by
  rw [pay12_eq, ← weight_mask _ (IntOp.cmpi .slt (lateShifts (k0_pay11 (F := Ideal) v5) (ix1 j) - k0_pay10 (F := Ideal) v5 (ix1 j) + before g base) (numPos g * 3#32)) _ ?_]
  · pointwise [k0_pay7, k0_pay8]
    rfl
  · intro he
    rw [running_apply g base hb v5 hv, pay10_apply g base hb v5 hv]
    have hy : g ⟨base + j.val, by omega⟩ = 20#32 := by
      rw [← hv j (by omega)]
      by_contra hne
      rw [cmpi_eq_zero hne] at he
      exact absurd he (by decide)
    have h1 : bg g (base + j.val) = 1 := by
      unfold bg
      rw [dif_pos (by omega), if_pos hy]
    unfold mined
    rw [show base + j.val + 1 = base + (j.val + 1) from rfl, before_add, h1]
    congr 1
    show BitVec.ofNat 32 _ - 1#32 + _ = _ + BitVec.ofNat 32 _ - 1#32
    rw [BitVec.sub_eq_add_neg, BitVec.sub_eq_add_neg]
    ac_rfl

end Tile

/-! ## The blocks of partial sums -/

/-- The tile's loss, class by class and anchor by anchor, given the anchors' weights. -/
def lossBlock (v5 : Vec Ideal S16384 .i32) (v8 : IVec S16384 1) (v79 : FVec Ideal S16384 .f32) (v88 : FVec Ideal S21x16384 .f32)
    (v89 : IVec S21x16384 32) : FVec Ideal S21x16384 .f32 :=
  select (cmpi .slt v89 (broadcast S21x16384 20#32))
    (subf (mulf (addf (maximumf v88 (broadcast S21x16384 (Scalar.ofBits .f32 0x00000000#32)))
      (log1p (exp (subf (broadcast S21x16384 (Scalar.ofBits .f32 0x00000000#32)) (absf v88)))))
      (broadcastTo S21x16384 (shapeCast S1x16384 v79 shapeCasts_S16384_S1x16384) broadcasts_S1x16384_S21x16384))
      (select (andi (cmpi .eq v89 (broadcastTo S21x16384 (shapeCast S1x16384 v5 shapeCasts_S16384_S1x16384) broadcasts_S1x16384_S21x16384))
        (broadcastTo S21x16384 (shapeCast S1x16384 v8 shapeCasts_S16384_S1x16384) broadcasts_S1x16384_S21x16384)) v88
        (broadcast S21x16384 (Scalar.ofBits .f32 0x00000000#32))))
    (broadcast S21x16384 (Scalar.ofBits .f32 0x00000000#32))

/-- The tile's box loss. -/
def boxBlock (v10 : FVec Ideal S16384 .f32) (v140 v142 : FVec Ideal S4x16384 .f32) : FVec Ideal S4x16384 .f32 :=
  mulf (select (cmpf .olt (absf (subf v140 v142)) (broadcast S4x16384 (Scalar.ofBits .f32 0x3F800000#32)))
      (mulf (mulf (broadcast S4x16384 (Scalar.ofBits .f32 0x3F000000#32)) (subf v140 v142)) (subf v140 v142))
      (subf (absf (subf v140 v142)) (broadcast S4x16384 (Scalar.ofBits .f32 0x3F000000#32))))
    (broadcastTo S4x16384 (shapeCast S1x16384 v10 shapeCasts_S16384_S1x16384) broadcasts_S1x16384_S4x16384)

theorem lossBlock_apply (v5 : Vec Ideal S16384 .i32) (v79 : FVec Ideal S16384 .f32) (v88 : FVec Ideal S21x16384 .f32) (s : BitVec 1)
    (c : Fin 21) (j : Fin 16384)
    (hw : v79 (ix1 j) = FloatOps.sitofp (F := Ideal) .f32 (BitVec.setWidth 32 (IntOp.ori (IntOp.xori (IntOp.cmpi .eq (v5 (ix1 j)) 20#32) 1#1)
          (IntOp.andi (IntOp.cmpi .eq (v5 (ix1 j)) 20#32) s)))) :
    lossBlock v5 (k0_pay8 (F := Ideal) v5) v79 v88 (iota .tc S21x16384 32 [0] iota_S21x16384_d0_w32) (ix2 c j)
      = if c.val < 20 then clsTerm s (v5 (ix1 j)) c.val (v88 (ix2 c j)) else 0 := by
  pointwise [lossBlock, k0_pay8, k0_pay7]
  rw [hw, clsTerm_kernel]
  have hc : ∀ c : Fin 21, IntOp.cmpi .slt (BitVec.ofNat 32 c.val) 20#32 = if c.val < 20 then 1#1 else 0#1 := by decide
  rw [hc]
  split
  · exact ValueIdx.select_one _ _
  · exact ValueIdx.select_zero _ _

theorem boxBlock_apply (v5 : Vec Ideal S16384 .i32) (v140 v142 : FVec Ideal S4x16384 .f32) (k : Fin 4) (j : Fin 16384) :
    boxBlock (k0_pay9 (F := Ideal) v5) v140 v142 (ix2 k j) = boxTerm (v5 (ix1 j)) (v140 (ix2 k j) - v142 (ix2 k j)) := by
  rw [← boxTerm_kernel]
  pointwise [boxBlock, k0_pay9, k0_pay8, k0_pay7]

/-- Seven halvings: 16384 lanes to 128. -/
def foldCls (v : FVec Ideal S21x16384 .f32) : FVec Ideal S21x128 .f32 :=
  halve 21 128 slices_S21x256_o0_0_S21x128 slices_S21x256_o0_128_S21x128
  (halve 21 256 slices_S21x512_o0_0_S21x256 slices_S21x512_o0_256_S21x256
  (halve 21 512 slices_S21x1024_o0_0_S21x512 slices_S21x1024_o0_512_S21x512
  (halve 21 1024 slices_S21x2048_o0_0_S21x1024 slices_S21x2048_o0_1024_S21x1024
  (halve 21 2048 slices_S21x4096_o0_0_S21x2048 slices_S21x4096_o0_2048_S21x2048
  (halve 21 4096 slices_S21x8192_o0_0_S21x4096 slices_S21x8192_o0_4096_S21x4096
  (halve 21 8192 slices_S21x16384_o0_0_S21x8192 slices_S21x16384_o0_8192_S21x8192 v))))))

/-- The same for the four box rows. -/
def foldBox (v : FVec Ideal S4x16384 .f32) : FVec Ideal S4x128 .f32 :=
  halve 4 128 slices_S4x256_o0_0_S4x128 slices_S4x256_o0_128_S4x128
  (halve 4 256 slices_S4x512_o0_0_S4x256 slices_S4x512_o0_256_S4x256
  (halve 4 512 slices_S4x1024_o0_0_S4x512 slices_S4x1024_o0_512_S4x512
  (halve 4 1024 slices_S4x2048_o0_0_S4x1024 slices_S4x2048_o0_1024_S4x1024
  (halve 4 2048 slices_S4x4096_o0_0_S4x2048 slices_S4x4096_o0_2048_S4x2048
  (halve 4 4096 slices_S4x8192_o0_0_S4x4096 slices_S4x8192_o0_4096_S4x4096
  (halve 4 8192 slices_S4x16384_o0_0_S4x8192 slices_S4x16384_o0_8192_S4x8192 v))))))

theorem sum_foldCls (v : FVec Ideal S21x16384 .f32) (c : Fin 21) : ∑ l : Fin 128, foldCls v (ix2 c l) = ∑ j : Fin 16384, v (ix2 c j) := by
  refine (sum_halve 21 128 _ _ _ c).trans ?_
  refine (sum_halve 21 256 _ _ _ c).trans ?_
  refine (sum_halve 21 512 _ _ _ c).trans ?_
  refine (sum_halve 21 1024 _ _ _ c).trans ?_
  refine (sum_halve 21 2048 _ _ _ c).trans ?_
  refine (sum_halve 21 4096 _ _ _ c).trans ?_
  exact sum_halve 21 8192 _ _ _ c

theorem sum_foldBox (v : FVec Ideal S4x16384 .f32) (k : Fin 4) : ∑ l : Fin 128, foldBox v (ix2 k l) = ∑ j : Fin 16384, v (ix2 k j) := by
  refine (sum_halve 4 128 _ _ _ k).trans ?_
  refine (sum_halve 4 256 _ _ _ k).trans ?_
  refine (sum_halve 4 512 _ _ _ k).trans ?_
  refine (sum_halve 4 1024 _ _ _ k).trans ?_
  refine (sum_halve 4 2048 _ _ _ k).trans ?_
  refine (sum_halve 4 4096 _ _ _ k).trans ?_
  exact sum_halve 4 8192 _ _ _ k

theorem pay15_eq (v5 : Vec Ideal S16384 .i32) (v8 : IVec S16384 1) (v79 : FVec Ideal S16384 .f32) (v88 : FVec Ideal S21x16384 .f32)
    (v89 : IVec S21x16384 32) (v114 : Vec Ideal S21x128 .f32) : k0_pay15 v5 v8 v79 v88 v89 v114
      = shapeCast S21x128 (addf v114 (foldCls (lossBlock v5 v8 v79 v88 v89))) shapeCasts_S21x128_S21x128 := rfl

theorem pay16_eq (v10 : FVec Ideal S16384 .f32) (v140 v142 : Vec Ideal S4x16384 .f32) (v154 : Vec Ideal S4x128 .f32) :
    k0_pay16 v10 v140 v142 v154 = shapeCast S4x128 (addf v154 (foldBox (boxBlock v10 (shapeCast S4x16384 v140 shapeCasts_S4x16384_S4x16384)
      (shapeCast S4x16384 v142 shapeCasts_S4x16384_S4x16384)))) shapeCasts_S4x128_S4x128 := rfl

/-- The sum of a block of partial class sums. -/
def totCls (v : FVec Ideal S21x128 .f32) : Ideal .f32 := ∑ c : Fin 21, ∑ l : Fin 128, v (ix2 c l)
/-- The sum of a block of partial box sums. -/
def totBox (v : FVec Ideal S4x128 .f32) : Ideal .f32 := ∑ k : Fin 4, ∑ l : Fin 128, v (ix2 k l)

theorem totCls_pay15 (v5 : Vec Ideal S16384 .i32) (v8 : IVec S16384 1) (v79 : FVec Ideal S16384 .f32) (v88 : FVec Ideal S21x16384 .f32)
    (v89 : IVec S21x16384 32) (v114 : Vec Ideal S21x128 .f32) : totCls (k0_pay15 v5 v8 v79 v88 v89 v114)
      = totCls v114 + ∑ c : Fin 21, ∑ j : Fin 16384, lossBlock v5 v8 v79 v88 v89 (ix2 c j) := by
  unfold totCls
  rw [← Finset.sum_add_distrib]
  refine Finset.sum_congr rfl fun c _ => ?_
  rw [← sum_foldCls, ← Finset.sum_add_distrib]
  refine Finset.sum_congr rfl fun l _ => ?_
  rw [pay15_eq]
  pointwise []

theorem totBox_pay16 (v10 : FVec Ideal S16384 .f32) (v140 v142 : Vec Ideal S4x16384 .f32) (v154 : Vec Ideal S4x128 .f32) :
    totBox (k0_pay16 v10 v140 v142 v154) = totBox v154 + ∑ k : Fin 4, ∑ j : Fin 16384, boxBlock v10 v140 v142 (ix2 k j) := by
  unfold totBox
  rw [← Finset.sum_add_distrib]
  refine Finset.sum_congr rfl fun c _ => ?_
  have hc : ∀ v : Vec Ideal S4x16384 .f32, shapeCast S4x16384 v shapeCasts_S4x16384_S4x16384 = v := fun v => by
    funext i; idx_vars i; pointwise []
  rw [← sum_foldBox, ← Finset.sum_add_distrib]
  refine Finset.sum_congr rfl fun l _ => ?_
  rw [pay16_eq, hc, hc]
  pointwise []

theorem totCls_pay5 : totCls (k0_pay5 (F := Ideal)) = 0 := by
  unfold totCls
  refine Finset.sum_eq_zero fun c _ => Finset.sum_eq_zero fun l _ => ?_
  pointwise [k0_pay5]

theorem totBox_pay6 : totBox (k0_pay6 (F := Ideal)) = 0 := by
  unfold totBox
  refine Finset.sum_eq_zero fun c _ => Finset.sum_eq_zero fun l _ => ?_
  pointwise [k0_pay6]

theorem pay1_eq (v : Vec Ideal S21x128 .f32) : k0_pay1 (F := Ideal) v = totCls v := by
  pointwise [k0_pay1, totCls]
theorem pay2_eq (v : Vec Ideal S4x128 .f32) : k0_pay2 (F := Ideal) v = totBox v := by
  pointwise [k0_pay2, totBox]
theorem pay4_eq (v : Vec Ideal S131072 .i32) : extractAt ![0, 0] (k0_pay4 (F := Ideal) v) inpos_S1x1_p0_0 = numPos fun n => v (ix1 n) := by
  pointwise [k0_pay4]
  rfl

end Cert.KernelIdeal.Tile

end
-- ==== Proof.Carry.lean ====
/-
  What the kernel carries from grid point to grid point: after point `n` the two counters hold the number of anchors not
  labelled background and the number of background anchors met so far, and the two blocks of partial sums total the
  contributions of the tiles `0 … n`. What the last point stores follows.
-/
module

public import proofs.«01_k».proof.Proof.Gen.KernelIdeal.Frame
public import proofs.«01_k».proof.Proof.Point
public import Idealize.ShloMosaic.Lib.Pipeline.ReadBack
public import Idealize.ShloMosaic.Lib.CellWrites
public import Idealize.ShloMosaic.Lib.Claim

@[expose] public section

set_option maxRecDepth 16384

noncomputable section

namespace Cert.KernelIdeal.Tile

open Cert.KernelIdeal Cert.KernelIdeal.Gen Cert.Loss Idealize.ShloMosaic Idealize.ShloMosaic.TcCoe Idealize.SL.Sem

variable (m : (ℓ : Loc nD τ sig) → Buf (Elt Ideal) ℓ) (c : Dev nD)

/-! ## The arguments by anchor -/

/-- The label of an anchor. -/
def labels (n : Fin 131072) : BitVec 32 := m ((c : Thread nD τ).loc main_arg3) (ix1 n)
/-- The logit of a class at an anchor. -/
def logit (n : Fin 131072) (k : Fin 21) : Ideal .f32 := m ((c : Thread nD τ).loc main_arg1) (ix2 n k)
/-- A box coordinate's error at an anchor. -/
def offBy (n : Fin 131072) (k : Fin 4) : Ideal .f32 :=
  FloatOps.subf (F := Ideal) (m ((c : Thread nD τ).loc main_arg0) (ix2 n k)) (m ((c : Thread nD τ).loc main_arg2) (ix2 n k))

/-- The classification contribution of class `k` at anchor `n`; class 20 contributes nothing. -/
def clsEntry (n : ℕ) (k : Fin 21) : Ideal .f32 :=
  if h : n < 131072 then (if k.val < 20 then clsTerm (mined (labels m c) n) (labels m c ⟨n, h⟩) k.val (logit m c ⟨n, h⟩ k) else 0) else 0
/-- The box contribution of coordinate `k` at anchor `n`. -/
def boxEntry (n : ℕ) (k : Fin 4) : Ideal .f32 :=
  if h : n < 131072 then boxTerm (labels m c ⟨n, h⟩) (offBy m c ⟨n, h⟩ k) else 0

/-- Tile `t`'s contributions. -/
def clsTile (t : ℕ) : Ideal .f32 := ∑ k : Fin 21, ∑ j : Fin 16384, clsEntry m c (t * 16384 + j.val) k
def boxTile (t : ℕ) : Ideal .f32 := ∑ k : Fin 4, ∑ j : Fin 16384, boxEntry m c (t * 16384 + j.val) k

/-! ## The blocks a grid point is given -/

theorem idx : ∀ t : Fin cfg0.N, win0_0.index t = ![0] ∧ win0_1.index t = ![0, t.val] ∧ win0_2.index t = ![0, t.val]
    ∧ win0_3.index t = ![0, t.val] ∧ (grid0.coords t 0).val = t.val :=
  (by decide +kernel : ∀ t : Fin grid0.N, _)

theorem tile_lt (t : Fin cfg0.N) : t.val < 8 := lt_of_lt_of_eq t.isLt N_0

/-- The labels of tile `t`, as the kernel loads them from the whole array of labels. -/
def tile (t : Fin cfg0.N) : Vec Ideal S16384 .i32 :=
  View.ld (iblk m c 0 t) (Rect.unit (s := S131072) (k0_off1 (grid0.coords t)) S16384.size (k0_off1_inb (grid0.coords t)))

theorem whole_labels (t : Fin cfg0.N) (n : Fin 131072) : iblk m c 0 t (ix1 n) = labels m c n := by
  have e := (idx t).1
  unfold labels
  blk_point [iblk, V, e]

theorem tile_apply (t : Fin cfg0.N) (j : Fin 16384) (h : t.val * 16384 + j.val < 131072) :
    tile m c t (ix1 j) = labels m c ⟨t.val * 16384 + j.val, h⟩ := by
  have e := (idx t).2.2.2.2
  unfold tile
  pointwise [k0_off1_eq, e]
  rw [whole_labels]
  congr 2
  omega

theorem v0_eq : (V m c main_v0 : FVec Ideal S21x131072 .f32)
    = transpose S21x131072 [1, 0] (m ((c : Thread nD τ).loc main_arg1) : FVec Ideal S131072x21 .f32) transposes_S131072x21_S21x131072_1_0 := by
  show StableHlo.after (hostOps0 (F := Ideal)) (fun b => m (c, b)) _ = _
  after_results

theorem v0_apply (k : Fin 21) (n : Fin 131072) : (V m c main_v0 : FVec Ideal S21x131072 .f32) (ix2 k n)
    = (m ((c : Thread nD τ).loc main_arg1) : FVec Ideal S131072x21 .f32) (ix2 n k) := by
  rw [v0_eq]
  pointwise []

theorem v1_eq : (V m c main_v1 : FVec Ideal S4x131072 .f32)
    = transpose S4x131072 [1, 0] (m ((c : Thread nD τ).loc main_arg0) : FVec Ideal S131072x4 .f32) transposes_S131072x4_S4x131072_1_0 := by
  show StableHlo.after (hostOps0 (F := Ideal)) (fun b => m (c, b)) _ = _
  after_results

theorem v1_apply (k : Fin 4) (n : Fin 131072) : (V m c main_v1 : FVec Ideal S4x131072 .f32) (ix2 k n)
    = (m ((c : Thread nD τ).loc main_arg0) : FVec Ideal S131072x4 .f32) (ix2 n k) := by
  rw [v1_eq]
  pointwise []

theorem v2_eq : (V m c main_v2 : FVec Ideal S4x131072 .f32)
    = transpose S4x131072 [1, 0] (m ((c : Thread nD τ).loc main_arg2) : FVec Ideal S131072x4 .f32) transposes_S131072x4_S4x131072_1_0 := by
  show StableHlo.after (hostOps0 (F := Ideal)) (fun b => m (c, b)) _ = _
  after_results

theorem v2_apply (k : Fin 4) (n : Fin 131072) : (V m c main_v2 : FVec Ideal S4x131072 .f32) (ix2 k n)
    = (m ((c : Thread nD τ).loc main_arg2) : FVec Ideal S131072x4 .f32) (ix2 n k) := by
  rw [v2_eq]
  pointwise []

theorem logits_apply (t : Fin cfg0.N) (k : Fin 21) (j : Fin 16384) (h : t.val * 16384 + j.val < 131072) :
    iblk m c 1 t (ix2 k j) = logit m c ⟨t.val * 16384 + j.val, h⟩ k := by
  have e := (idx t).2.1
  unfold logit
  refine Eq.trans ?_ (v0_apply m c k _)
  blk_point [iblk, e]

theorem error_apply (t : Fin cfg0.N) (k : Fin 4) (j : Fin 16384) (h : t.val * 16384 + j.val < 131072) :
    FloatOps.subf (F := Ideal) (iblk m c 2 t (ix2 k j)) (iblk m c 3 t (ix2 k j))
      = offBy m c ⟨t.val * 16384 + j.val, h⟩ k := by
  have e := (idx t).2.2.1
  have e' := (idx t).2.2.2.1
  unfold offBy
  refine congrArg₂ (FloatOps.subf (F := Ideal)) (Eq.trans ?_ (v1_apply m c k _)) (Eq.trans ?_ (v2_apply m c k _))
  · blk_point [iblk, e]
  · blk_point [iblk, e']

/-! ## One tile's step -/

theorem cls_step (t : Fin cfg0.N) (v114 : FVec Ideal S21x128 .f32) :
    totCls (k0_pay15 (tile m c t) (k0_pay8 (tile m c t)) (k0_pay12 (k0_pay7 (tile m c t)) (k0_pay8 (tile m c t)) (k0_pay10 (tile m c t)) (k0_pay11 (tile m c t)) 0#32 (before (labels m c) (t.val * 16384)) (numPos (labels m c))) (k0_pay14 (iblk m c 1 t)) (iota Kind.tc S21x16384 32 [0] iota_S21x16384_d0_w32) v114)
      = totCls v114 + clsTile m c t.val := by
  have ht := tile_lt t
  rw [totCls_pay15]
  refine congrArg (_ + ·) ?_
  unfold clsTile
  refine Finset.sum_congr rfl fun k _ => Finset.sum_congr rfl fun j _ => ?_
  have hw := weight_apply (labels m c) (t.val * 16384) (by omega) (tile m c t) (tile_apply m c t) j
  have h14 : k0_pay14 (iblk m c 1 t) (ix2 k j) = logit m c ⟨t.val * 16384 + j.val, by omega⟩ k := by
    rw [← logits_apply]
    pointwise [k0_pay14]
  rw [lossBlock_apply _ _ _ _ k j hw, h14, tile_apply m c t j (by omega), clsEntry, dif_pos (by omega)]

theorem box_step (t : Fin cfg0.N) (v154 : FVec Ideal S4x128 .f32) :
    totBox (k0_pay16 (k0_pay9 (tile m c t)) (iblk m c 2 t) (iblk m c 3 t) v154) = totBox v154 + boxTile m c t.val := by
  have ht := tile_lt t
  rw [totBox_pay16]
  refine congrArg (_ + ·) ?_
  unfold boxTile
  refine Finset.sum_congr rfl fun k _ => Finset.sum_congr rfl fun j _ => ?_
  rw [boxBlock_apply, tile_apply m c t j (by omega), boxEntry, dif_pos (by omega)]
  exact congrArg (boxTerm _) (error_apply m c t k j (by omega))

/-! ## The counters' cells and one step of each case -/

/-- What the first counter cell holds, and the second. -/
structure Counts (v : Vec Ideal S2 .i32) (n : ℕ) : Prop where
  pos : v (ix1 0) = numPos (labels m c)
  neg : v (ix1 1) = before (labels m c) n

/-- What is carried after grid point `n`. -/
structure Carried (n : ℕ) (hn : n < cfg0.N) : Prop where
  counts : Counts m c (outsAt0 m c n hn).2.2.2.1 ((n + 1) * 16384)
  cls : totCls (outsAt0 m c n hn).2.2.2.2.1 = ∑ t ∈ Finset.range (n + 1), clsTile m c t
  box : totBox (outsAt0 m c n hn).2.2.2.2.2 = ∑ t ∈ Finset.range (n + 1), boxTile m c t

theorem count_step (t : Fin cfg0.N) : Scalar.addi (before (labels m c) (t.val * 16384))
    (extractAt ![0, 0] (k0_pay13 (k0_pay10 (F := Ideal) (tile m c t))) inpos_S1x1_p0_0) = before (labels m c) ((t.val + 1) * 16384) := by
  have ht := tile_lt t
  rw [tile_count (labels m c) (t.val * 16384) (by omega) (tile m c t) (tile_apply m c t)]
  exact congrArg (before _) (by ring)

theorem positives (t : Fin cfg0.N) : extractAt ![0, 0] (k0_pay4 (F := Ideal) (iblk m c 0 t)) inpos_S1x1_p0_0 = numPos (labels m c) :=
  (pay4_eq _).trans (congrArg numPos (funext fun n => whole_labels m c t n))

/-- A store of one cell, over what the earlier stores left. -/
theorem canon_cell (k : ℕ) (inb : ∀ a, (![k] : Fin 1 → ℕ) a + (![1] : Fin 1 → ℕ) a ≤ S2.size a) (p : BitVec 32)
    (L : List (View.Piece (Elt Ideal) S2 .i32)) (y : S2.Idx) :
    View.canon ((⟨Rect.unit ![k] ![1] inb, fun _ => p⟩ : View.Piece (Elt Ideal) S2 .i32) :: L) y
      = if (y 0).val = k then p else View.canon L y := by
  split
  · next h =>
    have e : y = (Rect.unit (s := S2) ![k] ![1] inb).emb (fun a => ⟨0, by fin_cases a; exact Nat.one_pos⟩) := by
      funext a
      fin_cases a
      exact Fin.ext h
    rw [e]
    exact View.canon_cons_emb _ _ _ _
  · next h => exact View.canon_cons_of_not_mem _ _ fun hm => h ((Rect.mem_set_cell (inb := inb)).mp hm)

/-- A load of one cell. -/
theorem ld_cell (v : Vec Ideal S2 .i32) (k : Fin 2) (inb : ∀ a, (![k.val] : Fin 1 → ℕ) a + (![1] : Fin 1 → ℕ) a ≤ S2.size a)
    (x : (Rect.unit (s := S2) ![k.val] ![1] inb).shape.Idx) : View.ld v (Rect.unit (s := S2) ![k.val] ![1] inb) x = v (ix1 k) := by
  have e : x = fun a => ⟨0, by fin_cases a; exact Nat.one_pos⟩ := by
    funext a
    fin_cases a
    exact Fin.ext (Nat.lt_one_iff.mp (x 0).isLt)
  rw [e]
  refine congrArg v (funext fun a => ?_)
  fin_cases a
  exact Fin.ext rfl

theorem ld_first (v : Vec Ideal S2 .i32) (x : (Rect.unit (s := S2) ![0] ![1] inb_S2_S1_0).shape.Idx) :
    View.ld v (Rect.unit (s := S2) ![0] ![1] inb_S2_S1_0) x = v (ix1 0) := ld_cell v 0 _ x

theorem ld_second (v : Vec Ideal S2 .i32) (x : (Rect.unit (s := S2) ![1] ![1] inb_S2_S1_1).shape.Idx) :
    View.ld v (Rect.unit (s := S2) ![1] ![1] inb_S2_S1_1) x = v (ix1 1) := ld_cell v 1 _ x

theorem carried_first (t : Fin cfg0.N) (h0 : t.val % 8 = 0) (h1 : ¬t.val % 8 = 7) : Carried m c t.val t.isLt := by
  have ht := tile_lt t
  have hz : t.val = 0 := by omega
  have hb : before (labels m c) (t.val * 16384) = 0#32 := by rw [hz]; rfl
  have hc := cls_step m c t (k0_pay5 (F := Ideal))
  have hx := box_step m c t (k0_pay6 (F := Ideal))
  have hs := count_step m c t
  rw [hb, totCls_pay5] at hc
  rw [totBox_pay6] at hx
  rw [hb] at hs
  refine ⟨⟨?_, ?_⟩, ?_, ?_⟩
  · rw [outsAt0_A m c t h0 h1]
    frame_out
    rw [canon_cell, if_neg (by decide), canon_cell, if_neg (by decide), canon_cell, if_pos (by decide), positives]
  · rw [outsAt0_A m c t h0 h1]
    frame_out
    rw [canon_cell, if_pos (by decide)]
    exact hs
  · rw [outsAt0_A m c t h0 h1]
    frame_out
    rw [positives]
    refine hc.trans ?_
    rw [hz]
    simp
  · rw [outsAt0_A m c t h0 h1]
    frame_out
    refine hx.trans ?_
    rw [hz]
    simp

theorem carried_middle (t : Fin cfg0.N) (h0 : ¬t.val % 8 = 0) (h1 : ¬t.val % 8 = 7)
    (ih : Carried m c (t.val - 1) (Nat.lt_of_le_of_lt (Nat.sub_le _ _) t.isLt)) : Carried m c t.val t.isLt := by
  obtain ⟨⟨hp, hn⟩, hl, hb⟩ := ih
  rw [Nat.sub_add_cancel (by omega)] at hn hl hb
  refine ⟨⟨?_, ?_⟩, ?_, ?_⟩
  · rw [outsAt0_B m c t h0 h1]
    frame_out
    rw [View.read_writes_cons_cell, if_neg (by decide)]
    exact (congrFun (read_unread_whole _ _ _) _).trans hp
  · rw [outsAt0_B m c t h0 h1]
    frame_out
    simp only [read_unread_whole]
    rw [View.read_writes_cons_cell, if_pos (by decide), ld_second, hn]
    exact count_step m c t
  · rw [outsAt0_B m c t h0 h1]
    frame_out
    simp only [read_unread_whole]
    rw [ld_second, ld_first, hn, hp]
    exact (cls_step m c t _).trans (by rw [hl, Finset.sum_range_succ])
  · rw [outsAt0_B m c t h0 h1]
    frame_out
    simp only [read_unread_whole]
    exact (box_step m c t _).trans (by rw [hb, Finset.sum_range_succ])

theorem carried_last (t : Fin cfg0.N) (h0 : ¬t.val % 8 = 0) (h1 : t.val % 8 = 7)
    (ih : Carried m c (t.val - 1) (Nat.lt_of_le_of_lt (Nat.sub_le _ _) t.isLt)) : Carried m c t.val t.isLt := by
  obtain ⟨⟨hp, hn⟩, hl, hb⟩ := ih
  rw [Nat.sub_add_cancel (by omega)] at hn hl hb
  refine ⟨⟨?_, ?_⟩, ?_, ?_⟩
  · rw [outsAt0_C m c t h0 h1]
    frame_out
    rw [View.read_writes_cons_cell, if_neg (by decide)]
    exact (congrFun (read_unread_whole _ _ _) _).trans hp
  · rw [outsAt0_C m c t h0 h1]
    frame_out
    simp only [read_unread_whole]
    rw [View.read_writes_cons_cell, if_pos (by decide), ld_second, hn]
    exact count_step m c t
  · rw [outsAt0_C m c t h0 h1]
    frame_out
    simp only [read_unread_whole]
    rw [ld_second, ld_first, hn, hp]
    exact (cls_step m c t _).trans (by rw [hl, Finset.sum_range_succ])
  · rw [outsAt0_C m c t h0 h1]
    frame_out
    simp only [read_unread_whole]
    exact (box_step m c t _).trans (by rw [hb, Finset.sum_range_succ])

/-- Every grid point leaves what `Carried` says. -/
theorem carried (n : ℕ) : ∀ hn : n < cfg0.N, Carried m c n hn := by
  induction n with
  | zero => exact fun hn => carried_first m c ⟨0, hn⟩ rfl (by dsimp only; omega)
  | succ n ih =>
    intro hn
    have h8 := tile_lt ⟨n + 1, hn⟩
    dsimp only at h8
    by_cases h1 : (n + 1) % 8 = 7
    · exact carried_last m c ⟨n + 1, hn⟩ (by dsimp only; omega) h1 (ih _)
    · exact carried_middle m c ⟨n + 1, hn⟩ (by dsimp only; omega) h1 (ih _)

/-! ## What the last point stores -/

/-- The two losses, tile by tile. -/
def clsTotal : Ideal .f32 := ∑ t ∈ Finset.range 8, clsTile m c t
def boxTotal : Ideal .f32 := ∑ t ∈ Finset.range 8, boxTile m c t

/-- The overall loss from the number of positives and the two losses. -/
def scaled (n : BitVec 32) (x y : Ideal .f32) : Ideal .f32 :=
  FloatOps.mulf (F := Ideal) (FloatOps.divf (F := Ideal) (Scalar.ofBits .f32 0x3F800000#32) (FloatOps.sitofp (F := Ideal) .f32 n))
    (FloatOps.addf (F := Ideal) x y)

/-- The last point's three stores, in terms of what it leaves in the scratch. -/
theorem conf_of_scratch (t : Fin cfg0.N) (h0 : ¬t.val % 8 = 0) (h1 : t.val % 8 = 7) (x : S1x1.Idx) :
    (outsAt0 m c t.val t.isLt).2.2.1 x = totCls (outsAt0 m c t.val t.isLt).2.2.2.2.1 := by
  rw [outsAt0_C m c t h0 h1]
  frame_out
  exact pay1_eq _

theorem loc_of_scratch (t : Fin cfg0.N) (h0 : ¬t.val % 8 = 0) (h1 : t.val % 8 = 7) (x : S1x1.Idx) :
    (outsAt0 m c t.val t.isLt).2.1 x = totBox (outsAt0 m c t.val t.isLt).2.2.2.2.2 := by
  rw [outsAt0_C m c t h0 h1]
  frame_out
  exact pay2_eq _

theorem tot_of_scratch (t : Fin cfg0.N) (h0 : ¬t.val % 8 = 0) (h1 : t.val % 8 = 7) (x : S1x1.Idx)
    (hp : (outsAt0 m c (t.val - 1) (Nat.lt_of_le_of_lt (Nat.sub_le _ _) t.isLt)).2.2.2.1 (ix1 0) = numPos (labels m c)) :
    (outsAt0 m c t.val t.isLt).1 x = scaled (numPos (labels m c)) (totCls (outsAt0 m c t.val t.isLt).2.2.2.2.1)
        (totBox (outsAt0 m c t.val t.isLt).2.2.2.2.2) := by
  rw [outsAt0_C m c t h0 h1]
  frame_out
  simp only [read_unread_whole]
  rw [ld_first, hp, ← pay1_eq, ← pay2_eq]
  rfl

theorem conf_last (t : Fin cfg0.N) (h1 : t.val % 8 = 7) (x : S1x1.Idx) : (outsAt0 m c t.val t.isLt).2.2.1 x = clsTotal m c := by
  have ht := tile_lt t
  rw [conf_of_scratch m c t (by omega) h1 x, (carried m c t.val t.isLt).cls, show t.val + 1 = 8 by omega, clsTotal]

theorem loc_last (t : Fin cfg0.N) (h1 : t.val % 8 = 7) (x : S1x1.Idx) : (outsAt0 m c t.val t.isLt).2.1 x = boxTotal m c := by
  have ht := tile_lt t
  rw [loc_of_scratch m c t (by omega) h1 x, (carried m c t.val t.isLt).box, show t.val + 1 = 8 by omega, boxTotal]

theorem tot_last (t : Fin cfg0.N) (h1 : t.val % 8 = 7) (x : S1x1.Idx) :
    (outsAt0 m c t.val t.isLt).1 x = scaled (numPos (labels m c)) (clsTotal m c) (boxTotal m c) := by
  have ht := tile_lt t
  rw [tot_of_scratch m c t (by omega) h1 x (carried m c _ _).counts.pos, (carried m c t.val t.isLt).cls,
    (carried m c t.val t.isLt).box, show t.val + 1 = 8 by omega, clsTotal, boxTotal]

/-! ## The totals, anchor by anchor -/

theorem clsTotal_eq : clsTotal m c = ∑ n : Fin 131072, ∑ k : Fin 20,
    clsTerm (mined (labels m c) n.val) (labels m c n) k.val (logit m c n ⟨k.val, by omega⟩) := by
  have h := Fin.sum_univ_tiles 8 16384 rfl fun n : Fin 131072 => ∑ k : Fin 21, clsEntry m c n.val k
  unfold clsTotal clsTile
  rw [Finset.sum_range]
  refine Eq.trans (Finset.sum_congr rfl fun t _ => Finset.sum_comm) (h.symm.trans (Finset.sum_congr rfl fun n _ => ?_))
  rw [Fin.sum_univ_castSucc]
  unfold clsEntry
  rw [dif_pos n.isLt, if_neg (by decide), add_zero]
  refine Finset.sum_congr rfl fun k _ => ?_
  rw [dif_pos n.isLt]
  exact if_pos k.isLt

theorem boxTotal_eq : boxTotal m c = ∑ n : Fin 131072, ∑ k : Fin 4, boxTerm (labels m c n) (offBy m c n k) := by
  have h := Fin.sum_univ_tiles 8 16384 rfl fun n : Fin 131072 => ∑ k : Fin 4, boxEntry m c n.val k
  unfold boxTotal boxTile
  rw [Finset.sum_range]
  refine Eq.trans (Finset.sum_congr rfl fun t _ => Finset.sum_comm) (h.symm.trans (Finset.sum_congr rfl fun n _ => ?_))
  exact Finset.sum_congr rfl fun k _ => dif_pos n.isLt

end Cert.KernelIdeal.Tile

end
-- ==== Proof.Value.lean ====
/-
  What the kernel returns: the three stores of the last grid point, reshaped to scalars.
-/
module

public import proofs.«01_k».proof.Proof.Carry

@[expose] public section

set_option maxRecDepth 16384

noncomputable section

namespace Cert.KernelIdeal.Tile

open Cert.KernelIdeal Cert.KernelIdeal.Gen Cert.Loss Idealize.ShloMosaic Idealize.ShloMosaic.TcCoe Idealize.SL.Sem

variable (m : (ℓ : Loc nD τ sig) → Buf (Elt Ideal) ℓ) (c : Dev nD)

/-! ## The three output arrays -/

theorem arr_tot : (dats m 0 c).arrAt 4 (cfgs 0).N = (fun _ => scaled (numPos (labels m c)) (clsTotal m c) (boxTotal m c) : S1x1.Idx → Ideal .f32) := by
  refine (dats m 0 c).arrAt_eq_of_after_last 4 t0_7 (by decide +kernel) _ fun j => ?_
  blk_simp
  rw [after0_4]
  exact tot_last m c t0_7 rfl _

theorem arr_loc : (dats m 0 c).arrAt 5 (cfgs 0).N = (fun _ => boxTotal m c : S1x1.Idx → Ideal .f32) := by
  refine (dats m 0 c).arrAt_eq_of_after_last 5 t0_7 (by decide +kernel) _ fun j => ?_
  blk_simp
  rw [after0_5]
  exact loc_last m c t0_7 rfl _

theorem arr_conf : (dats m 0 c).arrAt 6 (cfgs 0).N = (fun _ => clsTotal m c : S1x1.Idx → Ideal .f32) := by
  refine (dats m 0 c).arrAt_eq_of_after_last 6 t0_7 (by decide +kernel) _ fun j => ?_
  blk_simp
  rw [after0_6]
  exact conf_last m c t0_7 rfl _

/-! ## The reshapes after the kernel -/

theorem arrays_distinct : Function.Injective (Pipeline.arrRef (cfgs 0).spec) := by decide

theorem tail_tot : Pipeline.afterTail₀ cfgs (dats m) 0 (V0 m) [hostOps1 (F := Ideal)] c main_v4
    = (fun _ => scaled (numPos (labels m c)) (clsTotal m c) (boxTotal m c) : S_.Idx → Ideal .f32) := by
  show StableHlo.after (hostOps1 (F := Ideal)) _ _ = _
  after_results
  rw [Pipeline.withArrays_arr (cfgs 0).spec arrays_distinct c _ _ 4, arr_tot]
  rfl

theorem tail_loc : Pipeline.afterTail₀ cfgs (dats m) 0 (V0 m) [hostOps1 (F := Ideal)] c main_v5
    = (fun _ => boxTotal m c : S_.Idx → Ideal .f32) := by
  show StableHlo.after (hostOps1 (F := Ideal)) _ _ = _
  after_results
  rw [Pipeline.withArrays_arr (cfgs 0).spec arrays_distinct c _ _ 5, arr_loc]
  rfl

theorem tail_conf : Pipeline.afterTail₀ cfgs (dats m) 0 (V0 m) [hostOps1 (F := Ideal)] c main_v6
    = (fun _ => clsTotal m c : S_.Idx → Ideal .f32) := by
  show StableHlo.after (hostOps1 (F := Ideal)) _ _ = _
  after_results
  rw [Pipeline.withArrays_arr (cfgs 0).spec arrays_distinct c _ _ 6, arr_conf]
  rfl

/-- The run: each result, and the arguments unchanged. -/
theorem results (ρ : Dev nD → PrngReg) :
    θ_run defs (onTc (τ := τ) (main (F := Ideal))) ⟨m, fun _ => 0, ρ⟩ fun r => ∀ c : Dev nD,
      r.2.mem ((c : Thread nD τ).loc main_v4) = (fun _ => scaled (numPos (labels m c)) (clsTotal m c) (boxTotal m c) : S_.Idx → Ideal .f32)
      ∧ r.2.mem ((c : Thread nD τ).loc main_v5) = (fun _ => boxTotal m c : S_.Idx → Ideal .f32)
      ∧ r.2.mem ((c : Thread nD τ).loc main_v6) = (fun _ => clsTotal m c : S_.Idx → Ideal .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h.2 c).2 main_v4 (by decide)).trans (tail_tot m c), ((h.2 c).2 main_v5 (by decide)).trans (tail_loc m c),
        ((h.2 c).2 main_v6 (by decide)).trans (tail_conf m c), h.1 c⟩)
    (θ_run_and (Gen.unchanged m ρ) (Gen.run_main m ρ))

end Cert.KernelIdeal.Tile

end
-- ==== Proof.RefValue.lean ====
/-
  The reference's three results as sums over anchors: the same terms the kernel's tiles contribute.
-/
module

public import proofs.«01_k».proof.Proof.Gen.ReferenceIdeal.Run
public import proofs.«01_k».proof.Proof.Loss
public import Idealize.ShloMosaic.Lib.Routing.Ops

@[expose] public section

set_option maxRecDepth 16384

noncomputable section

namespace Cert.ReferenceIdeal.Sums

open Cert.ReferenceIdeal Cert.ReferenceIdeal.Gen Cert.Loss Idealize.ShloMosaic Idealize.ShloMosaic.TcCoe Idealize.SL.Sem

variable (g : IVec S131072 32) (x : FVec Ideal S131072x21 .f32) (a b : FVec Ideal S131072x4 .f32)

/-- Which anchors carry an object, and which are background. -/
def positive : IVec S131072 1 := cmpi .ne g (broadcastInDim S131072 ![] bcast_S_S131072 (constantI S_ 32 20#32))
def background : IVec S131072 1 := cmpi .eq g (broadcastInDim S131072 ![] bcast_S_S131072 (constantI S_ 32 20#32))

/-- How many anchors carry an object. -/
def positives : IVec S_ 32 := Host.reduce IntOp.addi (extui 32 (positive g) natLt_1_32) (constantI S_ 32 0#32) reducesTo_S131072_S_d0 h_S_

/-- The running count of background anchors, the anchor itself included. -/
def running : IVec S131072 32 :=
  Host.reduceWindow IntOp.addi ![131072] ![1] ![131071] ![0] (extui 32 (background g) natLt_1_32)
    (broadcastInDim S_ ![] bcast_S_S_ (constantI S_ 32 0#32)) reduceWindows_S131072_S131072_w131072s1p131071_0 h_S_

/-- The background anchors that the reference keeps: those whose rank is below three times the number of objects. -/
def kept : IVec S131072 1 :=
  andi (background g) (cmpi .slt (subi (running g) (broadcastInDim S131072 ![] bcast_S_S131072 (constantI S_ 32 1#32)))
    (broadcastInDim S131072 ![] bcast_S_S131072 (muli (positives g) (constantI S_ 32 3#32))))

/-- The logits of the twenty object classes, and the target a label gives each. -/
def objectLogits : FVec Ideal S131072x20 .f32 := extractStridedSlice S131072x20 ![0, 0] x slices_S131072x21_S131072x20_0_0
def target : FVec Ideal S131072x20 .f32 :=
  extractStridedSlice S131072x20 ![0, 0] (uitofp .f32 (cmpi .eq (broadcastInDim S131072x21 ![0, 1] bcast_S131072x1_S131072x21_0_1
    (broadcastInDim S131072x1 ![0] bcast_S131072_S131072x1_0 (select (positive g) g (broadcastInDim S131072 ![] bcast_S_S131072 (id (constantI S_ 32 0#32))))))
    (broadcastInDim S131072x21 ![0, 1] bcast_S1x21_S131072x21_0_1 (iotaInDim S1x21 32 1)))) slices_S131072x21_S131072x20_0_0

/-- The cross entropy of the logits with a target, summed over the anchors that a mask keeps. -/
def entropy (q : FVec Ideal S131072x20 .f32) (w : IVec S131072 1) : FVec Ideal S_ .f32 :=
  Host.reduceAdd (mulf (addf (subf (maximumf (objectLogits x) (broadcastInDim S131072x20 ![] bcast_S_S131072x20 (constant S_ .f32 0x00000000#32)))
      (mulf (objectLogits x) q)) (Host.log1p (Host.exp (Host.negf (Host.absf (objectLogits x))))))
    (broadcastInDim S131072x20 ![0, 1] bcast_S131072x1_S131072x20_0_1 (broadcastInDim S131072x1 ![0] bcast_S131072_S131072x1_0 (uitofp .f32 w))))
    (constant S_ .f32 0x00000000#32) reducesTo_S131072x20_S_d0_1 h_S_

/-- The classification loss. -/
def conf : FVec Ideal S_ .f32 := addf (entropy x (target g) (positive g))
  (entropy x (broadcastInDim S131072x20 ![] bcast_S_S131072x20 (constant S_ .f32 0x00000000#32)) (kept g))

/-- The box loss. -/
def loc : FVec Ideal S_ .f32 :=
  mulf (Host.reduceAdd (mulf (select (cmpf .olt (Host.absf (subf a b)) (broadcastInDim S131072x4 ![] bcast_S_S131072x4 (constant S_ .f32 0x3F800000#32)))
      (mulf (mulf (broadcastInDim S131072x4 ![] bcast_S_S131072x4 (constant S_ .f32 0x3F000000#32)) (subf a b)) (subf a b))
      (subf (Host.absf (subf a b)) (broadcastInDim S131072x4 ![] bcast_S_S131072x4 (constant S_ .f32 0x3F000000#32))))
    (broadcastInDim S131072x4 ![0, 1] bcast_S131072x1_S131072x4_0_1 (broadcastInDim S131072x1 ![0] bcast_S131072_S131072x1_0 (uitofp .f32 (positive g)))))
    (constant S_ .f32 0x00000000#32) reducesTo_S131072x4_S_d0_1 h_S_) (constant S_ .f32 0x3F800000#32)

/-- The overall loss. -/
def total : FVec Ideal S_ .f32 :=
  mulf (Host.divf (constant S_ .f32 0x3F800000#32) (sitofp .f32 (positives g))) (addf (conf g x) (loc g a b))

/-! ## Read entry by entry -/

/-- An array of labels as a function of the anchor. -/
def at_ (n : Fin 131072) : BitVec 32 := g (ix1 n)

theorem positives_eq (i : S_.Idx) : positives g i = numPos (at_ g) := by
  rw [show i = ix0 from Subsingleton.elim _ _]
  pointwise [positives, positive]
  rfl

theorem running_eq (n : Fin 131072) : running g (ix1 n) = before (at_ g) (n.val + 1) := by
  unfold running
  refine (Routing.cumsum1 (N := 131072) (Nm1 := 131071) rfl _ (bg (at_ g)) (fun i => ?_) _ rfl _ _ n).trans rfl
  rw [← bg_word]
  pointwise [background]
  rfl

theorem kept_eq (n : Fin 131072) : kept g (ix1 n) = IntOp.andi (IntOp.cmpi .eq (at_ g n) 20#32) (mined (at_ g) n.val) := by
  unfold mined
  rw [← running_eq g n, ← positives_eq g ix0]
  pointwise [kept, background]
  rfl

theorem conf_eq (i : S_.Idx) : conf g x i
    = ∑ n : Fin 131072, ∑ k : Fin 20, clsTerm (mined (at_ g) n.val) (at_ g n) k.val (x (ix2 n ⟨k.val, by omega⟩)) := by
  rw [show i = ix0 from Subsingleton.elim _ _]
  simp only [← clsTerm_reference, Finset.sum_add_distrib]
  simp only [← kept_eq]
  pointwise [conf, entropy, objectLogits, target, positive]
  rfl

theorem loc_eq (i : S_.Idx) : loc g a b i = ∑ n : Fin 131072, ∑ k : Fin 4, boxTerm (at_ g n) (a (ix2 n k) - b (ix2 n k)) := by
  rw [show i = ix0 from Subsingleton.elim _ _]
  simp only [← boxTerm_reference]
  pointwise [loc, positive]
  rfl

theorem total_eq (i : S_.Idx) : total g x a b i =
    FloatOps.mulf (F := Ideal) (FloatOps.divf (F := Ideal) (Scalar.ofBits .f32 0x3F800000#32) (FloatOps.sitofp (F := Ideal) .f32 (numPos (at_ g))))
      (FloatOps.addf (F := Ideal) (conf g x i) (loc g a b i)) := by
  rw [← positives_eq g i]
  rfl

/-- The run: each result, and the arguments unchanged. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v68) = total (m ((c : Thread nD τ).loc main_arg3)) (m ((c : Thread nD τ).loc main_arg1))
        (m ((c : Thread nD τ).loc main_arg0)) (m ((c : Thread nD τ).loc main_arg2))
      ∧ r.2.mem ((c : Thread nD τ).loc main_v64) = loc (m ((c : Thread nD τ).loc main_arg3)) (m ((c : Thread nD τ).loc main_arg0))
        (m ((c : Thread nD τ).loc main_arg2))
      ∧ r.2.mem ((c : Thread nD τ).loc main_v49) = conf (m ((c : Thread nD τ).loc main_arg3)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans rfl, (h c).2.1.trans rfl, (h c).2.2.1.trans rfl, (h c).2.2.2⟩)
    (Value.run (F := Ideal) m ρ)

end Cert.ReferenceIdeal.Sums

end
-- ==== Proof.Agree.lean ====
/-
  Kernel and reference agree: from the same arguments the reference's three results are the kernel's.
-/
module

public import proofs.«01_k».proof.Defs
public import proofs.«01_k».proof.Proof.Value
public import proofs.«01_k».proof.Proof.RefValue

@[expose] public section

set_option maxRecDepth 16384

noncomputable section

namespace Cert.Agree

open Cert.Loss Idealize.ShloMosaic Idealize.ShloMosaic.TcCoe Idealize.SL.Sem
open Cert.KernelIdeal (S_)
open Cert.KernelIdeal.Tile (scaled clsTotal boxTotal labels)
open Cert.ReferenceIdeal.Sums (conf loc total)

variable (m : (ℓ : Loc Cert.KernelIdeal.nD Cert.KernelIdeal.τ Cert.KernelIdeal.sig) → Buf (Elt Ideal) ℓ) (c : Dev Cert.KernelIdeal.nD)

/-- The kernel's arguments, at the types that the reference's formulas take. -/
def boxes : FVec Ideal Cert.ReferenceIdeal.S131072x4 .f32 := m ((c : Thread Cert.KernelIdeal.nD Cert.KernelIdeal.τ).loc Cert.KernelIdeal.main_arg0)
def logits : FVec Ideal Cert.ReferenceIdeal.S131072x21 .f32 := m ((c : Thread Cert.KernelIdeal.nD Cert.KernelIdeal.τ).loc Cert.KernelIdeal.main_arg1)
def truths : FVec Ideal Cert.ReferenceIdeal.S131072x4 .f32 := m ((c : Thread Cert.KernelIdeal.nD Cert.KernelIdeal.τ).loc Cert.KernelIdeal.main_arg2)
def classes : IVec Cert.ReferenceIdeal.S131072 32 := m ((c : Thread Cert.KernelIdeal.nD Cert.KernelIdeal.τ).loc Cert.KernelIdeal.main_arg3)

theorem conf_agrees : conf (classes m c) (logits m c) = fun _ => clsTotal m c := by
  funext i
  rw [Cert.ReferenceIdeal.Sums.conf_eq, Cert.KernelIdeal.Tile.clsTotal_eq]
  rfl

theorem loc_agrees : loc (classes m c) (boxes m c) (truths m c) = fun _ => boxTotal m c := by
  funext i
  rw [Cert.ReferenceIdeal.Sums.loc_eq, Cert.KernelIdeal.Tile.boxTotal_eq]
  rfl

theorem total_agrees : total (classes m c) (logits m c) (boxes m c) (truths m c)
    = fun _ => scaled (numPos (labels m c)) (clsTotal m c) (boxTotal m c) := by
  funext i
  rw [Cert.ReferenceIdeal.Sums.total_eq, conf_agrees, loc_agrees]
  rfl

/-- The value claim. -/
theorem algebraic : Cert.algebraic_KernelIdeal_ReferenceIdeal := fun m g m' g' _ hagree =>
  ⟨fun c => (fun _ => scaled (numPos (labels m c)) (clsTotal m c) (boxTotal m c) : S_.Idx → Ideal .f32),
    fun c => (fun _ => boxTotal m c : S_.Idx → Ideal .f32), fun c => (fun _ => clsTotal m c : S_.Idx → Ideal .f32),
    Cert.KernelIdeal.Tile.results m g,
    (θ_run Cert.ReferenceIdeal.defs _ _).mono (fun r h c => by
      obtain ⟨h0, h1, h2, h3⟩ := hagree c
      obtain ⟨r0, r1, r2, rest⟩ := h c
      refine ⟨r0.trans (Eq.trans ?_ (total_agrees m c)), r1.trans (Eq.trans ?_ (loc_agrees m c)),
        r2.trans (Eq.trans ?_ (conf_agrees m c)), rest⟩
      · unfold classes logits boxes truths
        rw [← h0, ← h1, ← h2, ← h3]
      · unfold classes boxes truths
        rw [← h0, ← h2, ← h3]
      · unfold classes logits
        rw [← h1, ← h3])
    (Cert.ReferenceIdeal.Sums.results m' g')⟩

end Cert.Agree

end
-- ==== Proof.lean ====
/-
  The certificate: the frame of each of the three programs, `preserves` of the kernel and its idealization, and the
  agreement of the idealization with the reference in exact arithmetic (`Proof/Agree.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference's frame: its run read at the arguments; it declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, ⟨fun m ρ _ => Cert.Kernel.Gen.frame m ρ, fun m ρ _ => Cert.KernelIdeal.Gen.frame m ρ, frame_reference, trivial, Cert.Agree.algebraic⟩⟩

end Cert.Proof

end
